-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2048x18944 : Shape := ⟨3, ![3, 2048, 18944]⟩
abbrev S3x2048x1 : Shape := ⟨3, ![3, 2048, 1]⟩
abbrev S18944x3584 : Shape := ⟨2, ![18944, 3584]⟩
abbrev S3584 : Shape := ⟨1, ![3584]⟩
abbrev S3x2048x3584 : Shape := ⟨3, ![3, 2048, 3584]⟩
abbrev S6144x18944 : Shape := ⟨2, ![6144, 18944]⟩
abbrev S6144x1 : Shape := ⟨2, ![6144, 1]⟩
abbrev S1x3584 : Shape := ⟨2, ![1, 3584]⟩
abbrev S6144x3584 : Shape := ⟨2, ![6144, 3584]⟩
abbrev S512x18944 : Shape := ⟨2, ![512, 18944]⟩
abbrev S512x1 : Shape := ⟨2, ![512, 1]⟩
abbrev S18944x512 : Shape := ⟨2, ![18944, 512]⟩
abbrev S1x512 : Shape := ⟨2, ![1, 512]⟩
abbrev S512x512 : Shape := ⟨2, ![512, 512]⟩

abbrev nBuf : Space → Nat
  | .hbm => 11
  | .vmem => 12
  | .smem => 0
  | _ => 0

abbrev bufTy : (tb : Table) → Fin (tcTables nBuf tb) → BufTy
  | .hbm, ⟨0, _⟩ => ⟨S3x2048x18944, .fp8e4m3⟩
  | .hbm, ⟨1, _⟩ => ⟨S3x2048x1, .f32⟩
  | .hbm, ⟨2, _⟩ => ⟨S18944x3584, .fp8e4m3⟩
  | .hbm, ⟨3, _⟩ => ⟨S3584, .f32⟩
  | .hbm, ⟨4, _⟩ => ⟨S3x2048x3584, .bf16⟩
  | .hbm, ⟨5, _⟩ => ⟨S6144x18944, .fp8e4m3⟩
  | .hbm, ⟨6, _⟩ => ⟨S6144x1, .f32⟩
  | .hbm, ⟨7, _⟩ => ⟨S1x3584, .f32⟩
  | .hbm, ⟨8, _⟩ => ⟨S6144x3584, .bf16⟩
  | .hbm, ⟨9, _⟩ => ⟨S6144x3584, .bf16⟩
  | .hbm, ⟨10, _⟩ => ⟨S3x2048x3584, .bf16⟩
  | .local _ .vmem, ⟨0, _⟩ => ⟨S512x18944, .fp8e4m3⟩
  | .local _ .vmem, ⟨1, _⟩ => ⟨S512x18944, .fp8e4m3⟩
  | .local _ .vmem, ⟨2, _⟩ => ⟨S512x1, .f32⟩
  | .local _ .vmem, ⟨3, _⟩ => ⟨S512x1, .f32⟩
  | .local _ .vmem, ⟨4, _⟩ => ⟨S18944x512, .fp8e4m3⟩
  | .local _ .vmem, ⟨5, _⟩ => ⟨S18944x512, .fp8e4m3⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | _, _ => ⟨S3x2048x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x18944 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S18944x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S3x2048x18944 : Shape := ⟨3, ![3, 2048, 18944]⟩
abbrev S3x2048x1 : Shape := ⟨3, ![3, 2048, 1]⟩
abbrev S18944x3584 : Shape := ⟨2, ![18944, 3584]⟩
abbrev S3584 : Shape := ⟨1, ![3584]⟩
abbrev S3x2048x3584 : Shape := ⟨3, ![3, 2048, 3584]⟩
abbrev S1x1x3584 : Shape := ⟨3, ![1, 1, 3584]⟩

abbrev nBuf : Space → Nat
  | .hbm => 6
  | .vmem => 6
  | .smem => 0
  | _ => 0

abbrev bufTy : (tb : Table) → Fin (tcTables nBuf tb) → BufTy
  | .hbm, ⟨0, _⟩ => ⟨S3x2048x18944, .fp8e4m3⟩
  | .hbm, ⟨1, _⟩ => ⟨S3x2048x1, .f32⟩
  | .hbm, ⟨2, _⟩ => ⟨S18944x3584, .fp8e4m3⟩
  | .hbm, ⟨3, _⟩ => ⟨S3584, .f32⟩
  | .hbm, ⟨4, _⟩ => ⟨S3x2048x3584, .bf16⟩
  | .hbm, ⟨5, _⟩ => ⟨S3x2048x3584, .bf16⟩
  | .local _ .vmem, ⟨0, _⟩ => ⟨S3x2048x18944, .fp8e4m3⟩
  | .local _ .vmem, ⟨1, _⟩ => ⟨S3x2048x1, .f32⟩
  | .local _ .vmem, ⟨2, _⟩ => ⟨S18944x3584, .fp8e4m3⟩
  | .local _ .vmem, ⟨3, _⟩ => ⟨S3584, .f32⟩
  | .local _ .vmem, ⟨4, _⟩ => ⟨S3x2048x3584, .bf16⟩
  | .local _ .vmem, ⟨5, _⟩ => ⟨S3x2048x3584, .bf16⟩
  | _, _ => ⟨S3x2048x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x2048x18944 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2048x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x2048x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/- What both programs compute, as one function of the five arguments over the extended reals: at token `s` of batch `b` and
   output column `n`, the product of the token's row of `x` by column `n` of `w`, times the token's scale, times the column's
   scale, plus the residual there. -/
module

public import Idealize.ShloMosaic.PureOps.Ideal
public import Idealize.ShloMosaic.Lib.Pointwise

@[expose] public section

noncomputable section

namespace Cert.DownProj

open Idealize.ShloMosaic
open scoped BigOperators

/-- The down projection with its residual at one result index. -/
def elem (x : FVec Ideal ⟨3, ![3, 2048, 18944]⟩ .fp8e4m3) (xs : FVec Ideal ⟨3, ![3, 2048, 1]⟩ .f32)
    (w : FVec Ideal ⟨2, ![18944, 3584]⟩ .fp8e4m3) (ws : FVec Ideal ⟨1, ![3584]⟩ .f32)
    (res : FVec Ideal ⟨3, ![3, 2048, 3584]⟩ .bf16) (b : Fin 3) (s : Fin 2048) (n : Fin 3584) : EReal :=
  (∑ k : Fin 18944, (x (ix3 b s k) : EReal) * (w (ix2 k n) : EReal)) * (xs (ix3 b s 0) : EReal) * (ws (ix1 n) : EReal)
    + (res (ix3 b s n) : EReal)

/-- The whole result array. -/
def out (x : FVec Ideal ⟨3, ![3, 2048, 18944]⟩ .fp8e4m3) (xs : FVec Ideal ⟨3, ![3, 2048, 1]⟩ .f32)
    (w : FVec Ideal ⟨2, ![18944, 3584]⟩ .fp8e4m3) (ws : FVec Ideal ⟨1, ![3584]⟩ .f32)
    (res : FVec Ideal ⟨3, ![3, 2048, 3584]⟩ .bf16) : FVec Ideal ⟨3, ![3, 2048, 3584]⟩ .bf16 :=
  fun j => elem x xs w ws res (j 0) (j 1) (j 2)

end Cert.DownProj

end
-- ==== Proof.KernelBlock.lean ====
/- What one grid point of the kernel computes: its payload, read at an index of the (512, 512) block it writes. -/
module

public import proofs.«01_k».proof.Proof.Spec
public import proofs.«01_k».proof.Proof.Gen.KernelIdeal.Frame

@[expose] public section

noncomputable section

namespace Cert.KernelIdeal.OutValue

open Cert.KernelIdeal Cert.KernelIdeal.Gen Idealize.ShloMosaic
open scoped BigOperators

/-- The block's element at row `r` and column `l`: the product of row `r` of the left block by column `l` of the right block,
    times the row's scale, times the column's scale, plus the residual block's element. -/
theorem pay_apply (x : Vec Ideal S512x18944 .fp8e4m3) (w : Vec Ideal S18944x512 .fp8e4m3) (xs : Vec Ideal S512x1 .f32)
    (ws : Vec Ideal S1x512 .f32) (res : Vec Ideal S512x512 .bf16) (r l : Fin 512) :
    k0_pay1 (F := Ideal) x w xs ws res (ix2 r l)
      = (∑ k : Fin 18944, (x (ix2 r k) : EReal) * (w (ix2 k l) : EReal)) * (xs (ix2 r 0) : EReal) * (ws (ix2 0 l) : EReal)
        + (res (ix2 r l) : EReal) := by
  pointwise [k0_pay1]

end Cert.KernelIdeal.OutValue

end
-- ==== Proof.KernelArray.lean ====
/- What the kernel's output array holds when the grid is done, as one function of the arrays its windows read.

   Each of the 84 grid points computes one (512, 512) block; the blocks tile the (6144, 3584) array, and a block's element is
   the array function's element at the place the block puts it. -/
module

public import proofs.«01_k».proof.Proof.KernelBlock
public import Idealize.ShloMosaic.Lib.Pipeline.ValueKit.Geometry

@[expose] public section

noncomputable section

namespace Cert.KernelIdeal.OutValue

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The output array as a function of the five arrays the windows read, batch and token merged into one row axis. -/
def rows (x : Vec Ideal S6144x18944 .fp8e4m3) (xs : Vec Ideal S6144x1 .f32) (w : Vec Ideal S18944x3584 .fp8e4m3)
    (ws : Vec Ideal S1x3584 .f32) (res : Vec Ideal S6144x3584 .bf16) : Vec Ideal S6144x3584 .bf16 := fun i =>
  (∑ k : Fin 18944, (x (ix2 (i 0) k) : EReal) * (w (ix2 k (i 1)) : EReal)) * (xs (ix2 (i 0) 0) : EReal) * (ws (ix2 0 (i 1)) : EReal)
    + (res (ix2 (i 0) (i 1)) : EReal)

/-- How the input windows move with the output window: the row windows share its row block, the column windows its column
    block, and every other block index is zero. -/
theorem idx_facts : ∀ t : Fin cfg0.N,
    (win0_0.index t (0 : Fin 2) = win0_5.index t (0 : Fin 2) ∧ win0_0.index t (1 : Fin 2) = 0)
    ∧ (win0_1.index t (0 : Fin 2) = win0_5.index t (0 : Fin 2) ∧ win0_1.index t (1 : Fin 2) = 0)
    ∧ (win0_2.index t (0 : Fin 2) = 0 ∧ win0_2.index t (1 : Fin 2) = win0_5.index t (1 : Fin 2))
    ∧ (win0_3.index t (0 : Fin 2) = 0 ∧ win0_3.index t (1 : Fin 2) = win0_5.index t (1 : Fin 2))
    ∧ (win0_4.index t (0 : Fin 2) = win0_5.index t (0 : Fin 2) ∧ win0_4.index t (1 : Fin 2) = win0_5.index t (1 : Fin 2)) :=
  (by decide +kernel : ∀ t : Fin grid0.N, _)

/-- Where the output block of point `t` puts its row `r` and column `l` in the output array. -/
abbrev place (t : Fin cfg0.N) (r l : Fin 512) : S6144x3584.Idx := ((cfg0.win 5).blk t).view.emb (ix2 r l : S512x512.Idx)

/-- The activation block at point `t` holds the rows of the output block. -/
theorem iblk0_apply (c : Dev nD) (t : Fin cfg0.N) (r l : Fin 512) (k : Fin 18944) :
    iblk m c 0 t (ix2 r k : S512x18944.Idx) = V m c main_v0 (ix2 (place t r l 0) k : S6144x18944.Idx) := by
  obtain ⟨⟨e0, e1⟩, -⟩ := idx_facts t
  show V m c main_v0 (((cfg0.win 0).blk t).view.emb (ix2 r k : S512x18944.Idx)) = _
  congr 1; funext a; apply Fin.ext
  match a with
  | ⟨0, _⟩ => show win0_0.index t (0 : Fin 2) * 512 + 1 * r.val = win0_5.index t (0 : Fin 2) * 512 + 1 * r.val; omega
  | ⟨1, _⟩ => show win0_0.index t (1 : Fin 2) * 18944 + 1 * k.val = k.val; omega

/-- The activation-scale block at point `t` holds the scales of the output block's rows. -/
theorem iblk1_apply (c : Dev nD) (t : Fin cfg0.N) (r l : Fin 512) :
    iblk m c 1 t (ix2 r 0 : S512x1.Idx) = V m c main_v1 (ix2 (place t r l 0) 0 : S6144x1.Idx) := by
  obtain ⟨-, ⟨e0, e1⟩, -⟩ := idx_facts t
  show V m c main_v1 (((cfg0.win 1).blk t).view.emb (ix2 r 0 : S512x1.Idx)) = _
  congr 1; funext a; apply Fin.ext
  match a with
  | ⟨0, _⟩ => show win0_1.index t (0 : Fin 2) * 512 + 1 * r.val = win0_5.index t (0 : Fin 2) * 512 + 1 * r.val; omega
  | ⟨1, _⟩ => show win0_1.index t (1 : Fin 2) * 1 + 1 * 0 = 0; omega

/-- The weight block at point `t` holds the columns of the output block. -/
theorem iblk2_apply (c : Dev nD) (t : Fin cfg0.N) (r l : Fin 512) (k : Fin 18944) :
    iblk m c 2 t (ix2 k l : S18944x512.Idx) = V m c main_arg2 (ix2 k (place t r l 1) : S18944x3584.Idx) := by
  obtain ⟨-, -, ⟨e0, e1⟩, -⟩ := idx_facts t
  show V m c main_arg2 (((cfg0.win 2).blk t).view.emb (ix2 k l : S18944x512.Idx)) = _
  congr 1; funext a; apply Fin.ext
  match a with
  | ⟨0, _⟩ => show win0_2.index t (0 : Fin 2) * 18944 + 1 * k.val = k.val; omega
  | ⟨1, _⟩ => show win0_2.index t (1 : Fin 2) * 512 + 1 * l.val = win0_5.index t (1 : Fin 2) * 512 + 1 * l.val; omega

/-- The weight-scale block at point `t` holds the scales of the output block's columns. -/
theorem iblk3_apply (c : Dev nD) (t : Fin cfg0.N) (r l : Fin 512) :
    iblk m c 3 t (ix2 0 l : S1x512.Idx) = V m c main_v2 (ix2 0 (place t r l 1) : S1x3584.Idx) := by
  obtain ⟨-, -, -, ⟨e0, e1⟩, -⟩ := idx_facts t
  show V m c main_v2 (((cfg0.win 3).blk t).view.emb (ix2 0 l : S1x512.Idx)) = _
  congr 1; funext a; apply Fin.ext
  match a with
  | ⟨0, _⟩ => show win0_3.index t (0 : Fin 2) * 1 + 1 * 0 = 0; omega
  | ⟨1, _⟩ => show win0_3.index t (1 : Fin 2) * 512 + 1 * l.val = win0_5.index t (1 : Fin 2) * 512 + 1 * l.val; omega

/-- The residual block at point `t` lies where the output block does. -/
theorem iblk4_apply (c : Dev nD) (t : Fin cfg0.N) (r l : Fin 512) :
    iblk m c 4 t (ix2 r l : S512x512.Idx) = V m c main_v3 (ix2 (place t r l 0) (place t r l 1) : S6144x3584.Idx) := by
  obtain ⟨-, -, -, -, e0, e1⟩ := idx_facts t
  show V m c main_v3 (((cfg0.win 4).blk t).view.emb (ix2 r l : S512x512.Idx)) = _
  congr 1; funext a; apply Fin.ext
  match a with
  | ⟨0, _⟩ => show win0_4.index t (0 : Fin 2) * 512 + 1 * r.val = win0_5.index t (0 : Fin 2) * 512 + 1 * r.val; omega
  | ⟨1, _⟩ => show win0_4.index t (1 : Fin 2) * 512 + 1 * l.val = win0_5.index t (1 : Fin 2) * 512 + 1 * l.val; omega

/-- The offsets of every access of the body are zero. -/
theorem hz : (![0, 0] : Fin 2 → Nat) = fun _ => 0 := funext fun a => by fin_cases a <;> rfl

/-- The body's loads are of whole blocks and its one store is of the whole block, so what it leaves is its payload. -/
theorem out_eq (x0 : Vec Ideal S512x18944 .fp8e4m3) (x1 : Vec Ideal S512x1 .f32) (x2 : Vec Ideal S18944x512 .fp8e4m3)
    (x3 : Vec Ideal S1x512 .f32) (x4 : Vec Ideal S512x512 .bf16) :
    out0_5 (F := Ideal) x0 x1 x2 x3 x4 = k0_pay1 x0 x2 x1 x3 x4 := by
  unfold out0_5
  rw [View.canon_unit_zero hz, View.ld_unit_zero (S := S512x18944) hz _ x0, View.ld_unit_zero (S := S18944x512) hz _ x2,
    View.ld_unit_zero (S := S512x1) hz _ x1, View.ld_unit_zero (S := S1x512) hz _ x3, View.ld_unit_zero (S := S512x512) hz _ x4]

/-- What point `t` leaves at row `r`, column `l` of its block is the array function at the place the block puts it. -/
theorem after_apply (c : Dev nD) (t : Fin cfg0.N) (r l : Fin 512) :
    (dats m 0 c).after 5 t (ix2 r l : S512x512.Idx)
      = rows (V m c main_v0) (V m c main_v1) (V m c main_arg2) (V m c main_v2) (V m c main_v3) (place t r l) := by
  rw [after0_5, out_eq]
  refine (pay_apply _ _ _ _ _ r l).trans ?_
  unfold rows
  simp only [iblk0_apply m c t r l, iblk1_apply m c t r l, iblk2_apply m c t r l, iblk3_apply m c t r l, iblk4_apply m c t r l]

/-- The output array at the end of the grid. -/
theorem final (c : Dev nD) : (dats m 0 c).arrAt 5 cfg0.N
    = rows (V m c main_v0) (V m c main_v1) (V m c main_arg2) (V m c main_v2) (V m c main_v3) :=
  (dats m 0 c).arrAt_eq_of_covers 5 _ (by decide +kernel) fun t _ y => by
    obtain ⟨r, l, rfl⟩ : ∃ r l : Fin 512, y = (ix2 r l : S512x512.Idx) := ⟨y 0, y 1, eq_ix2 y⟩
    exact after_apply m c t r l

end Cert.KernelIdeal.OutValue

end
-- ==== Proof.KernelValue.lean ====
/- The kernel's result. The lines before the grid merge batch and token into one row axis (and give the weight scale a unit
   row axis), the line after it splits the rows again; read through those reshapes, the output array of the grid is
   `DownProj.out` of the arguments. -/
module

public import proofs.«01_k».proof.Proof.KernelArray
public import Idealize.ShloMosaic.Lib.StableHlo.Run
public import Idealize.ShloMosaic.Lib.Pipeline.Value

@[expose] public section

noncomputable section

namespace Cert.KernelIdeal.OutValue

open Cert.KernelIdeal Cert.KernelIdeal.Gen Idealize.ShloMosaic Idealize.ShloMosaic.TcCoe Idealize.SL.Sem
open scoped BigOperators

variable (m : (ℓ : Loc nD τ sig) → Buf (Elt Ideal) ℓ) (ρ : Dev nD → PrngReg)

/-- The row of the merged arrays that holds token `s` of batch `b`. -/
def row (b : Fin 3) (s : Fin 2048) : Fin 6144 := ⟨b.val * 2048 + s.val, by omega⟩

/-! ## The reshaped arguments as the grid finds them -/

/-- The activations as the grid finds them: batch and token merged. -/
theorem V_main_v0 (c : Dev nD) : V m c main_v0
    = shapeCast S6144x18944 (m ((c : Thread nD τ).loc main_arg0)) shapeCasts_S3x2048x18944_S6144x18944 := by
  show StableHlo.after (List.flatten [hostOps0]) (fun b => m (c, b)) (Proc.devRef .tc main_v0) = _
  simp only [hostOps0, List.flatten_cons, List.flatten_nil, List.append_nil]
  after_results
  rfl
/-- The activation scales as the grid finds them: batch and token merged. -/
theorem V_main_v1 (c : Dev nD) : V m c main_v1
    = shapeCast S6144x1 (m ((c : Thread nD τ).loc main_arg1)) shapeCasts_S3x2048x1_S6144x1 := by
  show StableHlo.after (List.flatten [hostOps0]) (fun b => m (c, b)) (Proc.devRef .tc main_v1) = _
  simp only [hostOps0, List.flatten_cons, List.flatten_nil, List.append_nil]
  after_results
  rfl
/-- The weight scales as the grid finds them: one row. -/
theorem V_main_v2 (c : Dev nD) : V m c main_v2
    = shapeCast S1x3584 (m ((c : Thread nD τ).loc main_arg3)) shapeCasts_S3584_S1x3584 := by
  show StableHlo.after (List.flatten [hostOps0]) (fun b => m (c, b)) (Proc.devRef .tc main_v2) = _
  simp only [hostOps0, List.flatten_cons, List.flatten_nil, List.append_nil]
  after_results
  rfl
/-- The residual as the grid finds it: batch and token merged. -/
theorem V_main_v3 (c : Dev nD) : V m c main_v3
    = shapeCast S6144x3584 (m ((c : Thread nD τ).loc main_arg4)) shapeCasts_S3x2048x3584_S6144x3584 := by
  show StableHlo.after (List.flatten [hostOps0]) (fun b => m (c, b)) (Proc.devRef .tc main_v3) = _
  simp only [hostOps0, List.flatten_cons, List.flatten_nil, List.append_nil]
  after_results
  rfl

/-! ## The equation -/

/-- Merging batch and token, computing row by row and splitting the rows again is computing token by token. -/
theorem rows_eq_out (x : Vec Ideal S3x2048x18944 .fp8e4m3) (xs : Vec Ideal S3x2048x1 .f32) (w : Vec Ideal S18944x3584 .fp8e4m3)
    (ws : Vec Ideal S3584 .f32) (res : Vec Ideal S3x2048x3584 .bf16) :
    shapeCast S3x2048x3584
      (rows (shapeCast S6144x18944 x shapeCasts_S3x2048x18944_S6144x18944) (shapeCast S6144x1 xs shapeCasts_S3x2048x1_S6144x1)
        w (shapeCast S1x3584 ws shapeCasts_S3584_S1x3584) (shapeCast S6144x3584 res shapeCasts_S3x2048x3584_S6144x3584))
      shapeCasts_S6144x3584_S3x2048x3584
      = Cert.DownProj.out x xs w ws res := by
  funext j
  obtain ⟨b, s, n, rfl⟩ : ∃ (b : Fin 3) (s : Fin 2048) (n : Fin 3584), j = ix3 b s n := ⟨j 0, j 1, j 2, eq_ix3 j⟩
  have hx (k : Fin 18944) : shapeCast S6144x18944 x shapeCasts_S3x2048x18944_S6144x18944 (ix2 (row b s) k) = x (ix3 b s k) :=
    shapeCast_apply _ _ _ _ (by
      rw [Shape.rowMajor_val_two, Shape.rowMajor_val_three]
      show (b.val * 2048 + s.val) * 18944 + k.val = (b.val * 2048 + s.val) * 18944 + k.val; rfl)
  have hxs : shapeCast S6144x1 xs shapeCasts_S3x2048x1_S6144x1 (ix2 (row b s) 0) = xs (ix3 b s 0) :=
    shapeCast_apply _ _ _ _ (by
      rw [Shape.rowMajor_val_two, Shape.rowMajor_val_three]
      show (b.val * 2048 + s.val) * 1 + 0 = (b.val * 2048 + s.val) * 1 + 0; rfl)
  have hws : shapeCast S1x3584 ws shapeCasts_S3584_S1x3584 (ix2 0 n) = ws (ix1 n) :=
    shapeCast_apply _ _ _ _ (by
      rw [Shape.rowMajor_val_two, Shape.rowMajor_val_one]
      show n.val = 0 * 3584 + n.val; omega)
  have hres : shapeCast S6144x3584 res shapeCasts_S3x2048x3584_S6144x3584 (ix2 (row b s) n) = res (ix3 b s n) :=
    shapeCast_apply _ _ _ _ (by
      rw [Shape.rowMajor_val_two, Shape.rowMajor_val_three]
      show (b.val * 2048 + s.val) * 3584 + n.val = (b.val * 2048 + s.val) * 3584 + n.val; rfl)
  refine (shapeCast_apply _ _ _ (ix2 (row b s) n : S6144x3584.Idx) (by
      rw [Shape.rowMajor_val_two, Shape.rowMajor_val_three]
      show (b.val * 2048 + s.val) * 3584 + n.val = (b.val * 2048 + s.val) * 3584 + n.val; rfl)).trans ?_
  show (∑ k : Fin 18944, (shapeCast S6144x18944 x shapeCasts_S3x2048x18944_S6144x18944 (ix2 (row b s) k) : EReal) * (w (ix2 k n) : EReal))
        * (shapeCast S6144x1 xs shapeCasts_S3x2048x1_S6144x1 (ix2 (row b s) 0) : EReal)
        * (shapeCast S1x3584 ws shapeCasts_S3584_S1x3584 (ix2 0 n) : EReal)
      + (shapeCast S6144x3584 res shapeCasts_S3x2048x3584_S6144x3584 (ix2 (row b s) n) : EReal)
    = Cert.DownProj.elem x xs w ws res b s n
  simp only [hx, hxs, hws, hres]
  rfl

/-! ## The run -/

/-- The six windows are on six different arrays. -/
theorem arr_injective : Function.Injective (Pipeline.arrRef spec0) := by decide

/-- The result buffer after the line behind the grid: the output array, its rows split. -/
theorem tail_eq (c : Dev nD) : Pipeline.afterTail₀ cfgs (dats m) 0 (V0 m) [hostOps1] c main_v5
    = Cert.DownProj.out (m ((c : Thread nD τ).loc main_arg0)) (m ((c : Thread nD τ).loc main_arg1))
        (m ((c : Thread nD τ).loc main_arg2)) (m ((c : Thread nD τ).loc main_arg3)) (m ((c : Thread nD τ).loc main_arg4)) := by
  have h : Pipeline.afterTail₀ cfgs (dats m) 0 (V0 m) [hostOps1] c main_v5
      = shapeCast S3x2048x3584 ((dats m 0 c).arrAt 5 cfg0.N) shapeCasts_S6144x3584_S3x2048x3584 := by
    unfold Pipeline.afterTail₀
    simp only [hostOps1, List.flatten_cons, List.flatten_nil, List.append_nil]
    after_results
    exact congrArg (fun a => shapeCast S3x2048x3584 a shapeCasts_S6144x3584_S3x2048x3584)
      (Pipeline.withArrays_arr spec0 arr_injective c (V0 m c) (fun w => (dats m 0 c).arrAt w cfg0.N) 5)
  rw [h, final, V_main_v0, V_main_v1, V_main_v2, V_main_v3, V_main_arg2]
  exact rows_eq_out _ _ _ _ _

/-- The kernel's run: the result buffer ends at the down projection of the arguments, and the arguments are unchanged. -/
theorem run : θ_run defs (onTc (τ := τ) (main (F := Ideal))) ⟨m, fun _ => 0, ρ⟩ fun r => ∀ c : Dev nD,
      r.2.mem ((c : Thread nD τ).loc main_v5)
        = Cert.DownProj.out (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.OutValue

end
-- ==== Proof.RefValue.lean ====
/- The reference's result array is `DownProj.out` of its arguments: its one payload read at an index. -/
module

public import proofs.«01_k».proof.Proof.Spec
public import proofs.«01_k».proof.Proof.Gen.ReferenceIdeal.Value

@[expose] public section

noncomputable section

namespace Cert.ReferenceIdeal.OutValue

open Cert.ReferenceIdeal Cert.ReferenceIdeal.Gen Idealize.ShloMosaic
open scoped BigOperators

/-- The payload of the reference's one store is the down projection with its residual. -/
theorem pay_eq (x : Vec Ideal S3x2048x18944 .fp8e4m3) (w : Vec Ideal S18944x3584 .fp8e4m3) (xs : Vec Ideal S3x2048x1 .f32)
    (ws : Vec Ideal S3584 .f32) (res : Vec Ideal S3x2048x3584 .bf16) :
    k0_pay1 (F := Ideal) x w xs ws res = Cert.DownProj.out x xs w ws res := by
  funext j
  pointwise [k0_pay1, Cert.DownProj.out, Cert.DownProj.elem]

end Cert.ReferenceIdeal.OutValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel and the reference, at the same arguments, end with the same result: both are `DownProj.out` of them. -/
theorem algebraic : Cert.algebraic_KernelIdeal_ReferenceIdeal (hKernelIdeal := Cert.KernelIdeal.Gen.facts)
    (hReferenceIdeal := Cert.ReferenceIdeal.Gen.facts) := fun m g m' g' _ hm =>
  ⟨_, Cert.KernelIdeal.OutValue.run m g,
    (θ_run Cert.ReferenceIdeal.defs _ _).mono (fun _ h c => ⟨(h c).1.trans (by
        obtain ⟨h0, h1, h2, h3, h4⟩ := hm c
        rw [h0, h1, h2, h3, h4]
        exact Cert.ReferenceIdeal.OutValue.pay_eq _ _ _ _ _), (h c).2⟩)
      (Cert.ReferenceIdeal.Value.run m' g')⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
